-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S1x3072x1024 : Shape := ⟨3, ![1, 3072, 1024]⟩
abbrev S1x3072x1 : Shape := ⟨3, ![1, 3072, 1]⟩
abbrev S1024x1920 : Shape := ⟨2, ![1024, 1920]⟩
abbrev S1x1920 : Shape := ⟨2, ![1, 1920]⟩
abbrev S3072x1024 : Shape := ⟨2, ![3072, 1024]⟩
abbrev S3072x1 : Shape := ⟨2, ![3072, 1]⟩
abbrev S3072x1920 : Shape := ⟨2, ![3072, 1920]⟩
abbrev S256x1024 : Shape := ⟨2, ![256, 1024]⟩
abbrev S256x1 : Shape := ⟨2, ![256, 1]⟩
abbrev S256x1920 : Shape := ⟨2, ![256, 1920]⟩
abbrev S1024x1792 : Shape := ⟨2, ![1024, 1792]⟩
abbrev S256x1792 : Shape := ⟨2, ![256, 1792]⟩
abbrev S1024x256 : Shape := ⟨2, ![1024, 256]⟩
abbrev S256x256 : Shape := ⟨2, ![256, 256]⟩
abbrev S1x1792 : Shape := ⟨2, ![1, 1792]⟩
abbrev S256x128 : Shape := ⟨2, ![256, 128]⟩
abbrev S1x128 : Shape := ⟨2, ![1, 128]⟩
abbrev S256 : Shape := ⟨1, ![256]⟩
abbrev S1x256 : Shape := ⟨2, ![1, 256]⟩
abbrev S1x3072x1920 : Shape := ⟨3, ![1, 3072, 1920]⟩

abbrev nBuf : Space → Nat
  | .hbm => 10
  | .vmem => 10
  | .smem => 0
  | _ => 0

abbrev bufTy : (tb : Table) → Fin (tcTables nBuf tb) → BufTy
  | .hbm, ⟨0, _⟩ => ⟨S1x3072x1024, .fp8e4m3⟩
  | .hbm, ⟨1, _⟩ => ⟨S1x3072x1, .f32⟩
  | .hbm, ⟨2, _⟩ => ⟨S1024x1920, .fp8e4m3⟩
  | .hbm, ⟨3, _⟩ => ⟨S1x1920, .f32⟩
  | .hbm, ⟨4, _⟩ => ⟨S3072x1024, .fp8e4m3⟩
  | .hbm, ⟨5, _⟩ => ⟨S3072x1, .f32⟩
  | .hbm, ⟨6, _⟩ => ⟨S3072x1, .f32⟩
  | .hbm, ⟨7, _⟩ => ⟨S3072x1920, .fp8e4m3⟩
  | .hbm, ⟨8, _⟩ => ⟨S1x3072x1, .f32⟩
  | .hbm, ⟨9, _⟩ => ⟨S1x3072x1920, .fp8e4m3⟩
  | .local _ .vmem, ⟨0, _⟩ => ⟨S256x1024, .fp8e4m3⟩
  | .local _ .vmem, ⟨1, _⟩ => ⟨S256x1024, .fp8e4m3⟩
  | .local _ .vmem, ⟨2, _⟩ => ⟨S256x1, .f32⟩
  | .local _ .vmem, ⟨3, _⟩ => ⟨S256x1, .f32⟩
  | .local _ .vmem, ⟨4, _⟩ => ⟨S1024x1920, .fp8e4m3⟩
  | .local _ .vmem, ⟨5, _⟩ => ⟨S1x1920, .f32⟩
  | .local _ .vmem, ⟨6, _⟩ => ⟨S256x1, .f32⟩
  | .local _ .vmem, ⟨7, _⟩ => ⟨S256x1, .f32⟩
  | .local _ .vmem, ⟨8, _⟩ => ⟨S256x1920, .fp8e4m3⟩
  | .local _ .vmem, ⟨9, _⟩ => ⟨S256x1920, .fp8e4m3⟩
  | _, _ => ⟨S1x3072x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1920 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
variable {F : FTy → Type} [FloatOps F] [Named F]
def κ : String → Option EReal := fun
  | "ln2" => some ((Real.log 2 : ℝ) : EReal)
  | _ => none
-- ==== Reference.lean ====
abbrev S1x3072x1024 : Shape := ⟨3, ![1, 3072, 1024]⟩
abbrev S1x3072x1 : Shape := ⟨3, ![1, 3072, 1]⟩
abbrev S1024x1920 : Shape := ⟨2, ![1024, 1920]⟩
abbrev S1x1920 : Shape := ⟨2, ![1, 1920]⟩
abbrev S3072x1024 : Shape := ⟨2, ![3072, 1024]⟩
abbrev S3072x1 : Shape := ⟨2, ![3072, 1]⟩
abbrev S3072x1920 : Shape := ⟨2, ![3072, 1920]⟩
abbrev S3072 : Shape := ⟨1, ![3072]⟩
abbrev S1x3072x1920 : Shape := ⟨3, ![1, 3072, 1920]⟩

abbrev nBuf : Space → Nat
  | .hbm => 10
  | .vmem => 6
  | .smem => 0
  | _ => 0

abbrev bufTy : (tb : Table) → Fin (tcTables nBuf tb) → BufTy
  | .hbm, ⟨0, _⟩ => ⟨S1x3072x1024, .fp8e4m3⟩
  | .hbm, ⟨1, _⟩ => ⟨S1x3072x1, .f32⟩
  | .hbm, ⟨2, _⟩ => ⟨S1024x1920, .fp8e4m3⟩
  | .hbm, ⟨3, _⟩ => ⟨S1x1920, .f32⟩
  | .hbm, ⟨4, _⟩ => ⟨S3072x1024, .fp8e4m3⟩
  | .hbm, ⟨5, _⟩ => ⟨S3072x1, .f32⟩
  | .hbm, ⟨6, _⟩ => ⟨S3072x1, .f32⟩
  | .hbm, ⟨7, _⟩ => ⟨S3072x1920, .fp8e4m3⟩
  | .hbm, ⟨8, _⟩ => ⟨S1x3072x1, .f32⟩
  | .hbm, ⟨9, _⟩ => ⟨S1x3072x1920, .fp8e4m3⟩
  | .local _ .vmem, ⟨0, _⟩ => ⟨S3072x1024, .fp8e4m3⟩
  | .local _ .vmem, ⟨1, _⟩ => ⟨S3072x1, .f32⟩
  | .local _ .vmem, ⟨2, _⟩ => ⟨S1024x1920, .fp8e4m3⟩
  | .local _ .vmem, ⟨3, _⟩ => ⟨S1x1920, .f32⟩
  | .local _ .vmem, ⟨4, _⟩ => ⟨S3072x1, .f32⟩
  | .local _ .vmem, ⟨5, _⟩ => ⟨S3072x1920, .fp8e4m3⟩
  | _, _ => ⟨S1x3072x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1920 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Pow2.lean ====
/-
  The power-of-two scale, as extended reals (hand-written, untrusted): the exponent field that the kernel finds in a
  table of 256 powers of two, and the exponent that the reference computes by a logarithm, give the same scale and the
  same reciprocal scale — at every extended real, with no precondition.
-/
module

public import Idealize.ShloMosaic.PureOps.Ideal
public import Idealize.ShloMosaic.PureOps.Ideal.Laws
public import Idealize.ShloMosaic.Lib.Pointwise

@[expose] public section

noncomputable section

namespace Cert.Pow2

open Idealize.ShloMosaic

/-! ## The constants -/

/-- `2^-126`, the least normal float32. -/
abbrev minNormal : EReal := (((2 : ℝ) ^ (-126 : ℤ) : ℝ) : EReal)

theorem ofBits_minNormal : Ideal.ofBits .f32 0x00800000#32 = minNormal := by
  simp [Ideal.ofBits, Ideal.ieee, minNormal, -EReal.coe_mul]; norm_num
theorem ofBits_inf : Ideal.ofBits .f32 0x7F800000#32 = ⊤ := by
  simp [Ideal.ofBits, Ideal.ieee]
theorem ofBits_neg_inf : Ideal.ofBits .f32 0xFF800000#32 = ⊥ := by
  simp [Ideal.ofBits, Ideal.ieee]
theorem ofBits_127 : Ideal.ofBits .f32 0x42FE0000#32 = ((127 : ℝ) : EReal) := by
  simp [Ideal.ofBits, Ideal.ieee, -EReal.coe_mul]; norm_num
theorem ofBits_neg_126 : Ideal.ofBits .f32 0xC2FC0000#32 = ((-126 : ℝ) : EReal) := by
  simp [Ideal.ofBits, Ideal.ieee, -EReal.coe_mul, -EReal.coe_neg]; norm_num

/-! ## The reference's exponent and powers -/

/-- The reference's exponent of `t`: `⌊log t / log 2⌋ + 1`, zero below the normal numbers and at infinity. -/
def expo (t : EReal) : EReal :=
  if t < minNormal ∨ t = ⊤ then 0 else Ideal.liftRound Int.floor (Ideal.div (Ideal.log t) ((Real.log 2 : ℝ) : EReal)) + 1

/-- The reference's `2^e`: infinity above the normal numbers, zero below. -/
def pow2 (e : EReal) : EReal :=
  if ((127 : ℝ) : EReal) < e then ⊤ else if e < ((-126 : ℝ) : EReal) then 0 else Ideal.exp2 e

/-- The reference's scale and reciprocal scale at `t`. -/
def scale (t : EReal) : EReal := pow2 (expo t)
def inv (t : EReal) : EReal := pow2 (0 - expo t)

/-! ## The kernel's exponent field -/

/-- The float32 whose exponent field is `k` and whose other bits are zero. -/
def thr (k : ℕ) : EReal := if k = 0 then 0 else if k = 255 then ⊤ else (((2 : ℝ) ^ ((k : ℤ) - 127) : ℝ) : EReal)

/-- A word with a clear sign, exponent field `k` and no fraction bits is `thr k`. -/
theorem ieee_of_parts (b : BitVec 32) (k : ℕ) (h1 : (b.extractLsb' (8 + 23) 1 == 1#1) = false)
    (h2 : (b.extractLsb' 23 8).toNat = k) (h3 : (b.extractLsb' 0 23).toNat = 0) : Ideal.ieee 8 23 b = thr k := by
  unfold Ideal.ieee thr
  simp only [h1, h2, h3, if_true]
  by_cases h0 : k = 0
  · rw [if_neg (by omega), if_pos h0, if_pos h0]; simp
  · by_cases h255 : k = 255
    · rw [if_pos (by omega), if_neg h0, if_pos h255]; simp
    · rw [if_neg (by omega), if_neg h0, if_neg h0, if_neg h255]
      congr 1
      have e : (k : ℤ) - 127 - (23 : ℕ) = (k : ℤ) - 127 - 23 := by norm_num
      have e' : (2 : ℤ) ^ (8 - 1) - 1 = 127 := by norm_num
      rw [e', e, zpow_sub₀ (by norm_num) _ 23]
      norm_num
      ring

theorem shift_parts : ∀ k : Fin 256, (BitVec.extractLsb' (8 + 23) 1 (BitVec.ofNat 32 k.val <<< (23#32)) == 1#1) = false
    ∧ (BitVec.extractLsb' 23 8 (BitVec.ofNat 32 k.val <<< (23#32))).toNat = k.val
    ∧ (BitVec.extractLsb' 0 23 (BitVec.ofNat 32 k.val <<< (23#32))).toNat = 0 := by decide +kernel

/-- The word `k << 23`, read as a float32, is `thr k`. -/
theorem ofBits_shift (k : ℕ) (hk : k < 256) : Ideal.ofBits .f32 (BitVec.ofNat 32 k <<< (23#32)) = thr k :=
  ieee_of_parts _ k (shift_parts ⟨k, hk⟩).1 (shift_parts ⟨k, hk⟩).2.1 (shift_parts ⟨k, hk⟩).2.2

/-- `k` is the exponent field of `t`: the greatest `k` of 0 … 255 with `thr k ≤ t` (0 if there is none). -/
def IsField (t : EReal) (k : ℕ) : Prop := k < 256 ∧ (k = 0 ∨ thr k ≤ t) ∧ (k = 255 ∨ t < thr (k + 1))

theorem thr_mono {i k : ℕ} (h : i ≤ k) (hk : k < 256) : thr i ≤ thr k := by
  rcases Nat.eq_or_lt_of_le h with rfl | h
  · exact le_rfl
  unfold thr
  by_cases hi : i = 0
  · rw [if_pos hi, if_neg (by omega)]
    split_ifs
    · exact le_top
    · exact EReal.coe_nonneg.mpr (by positivity)
  · rw [if_neg hi, if_neg (by omega), if_neg (show k ≠ 0 by omega)]
    split_ifs
    · exact le_top
    · exact EReal.coe_le_coe_iff.mpr (zpow_le_zpow_right₀ (by norm_num) (by omega))

/-- Every extended real has an exponent field. -/
theorem exists_field (t : EReal) : ∃ k, IsField t k := by
  classical
  refine ⟨Nat.findGreatest (fun k => thr k ≤ t) 255, ?_, ?_, ?_⟩
  · exact Nat.lt_succ_of_le (Nat.findGreatest_le _)
  · by_cases h : Nat.findGreatest (fun k => thr k ≤ t) 255 = 0
    · exact .inl h
    · exact .inr (Nat.findGreatest_of_ne_zero rfl h)
  · rcases Nat.eq_or_lt_of_le (Nat.findGreatest_le (P := fun k => thr k ≤ t) 255) with h | h
    · exact .inl h
    · exact .inr (not_le.mp (Nat.findGreatest_is_greatest (Nat.lt_succ_self _) h))

/-- Below the field the table's entries are at most `t`, above it they are greater. -/
theorem IsField.le_iff {t : EReal} {k : ℕ} (h : IsField t k) {j : ℕ} (hj : j < 256) (h0 : j ≠ 0) : thr j ≤ t ↔ j ≤ k := by
  refine ⟨fun hjt => ?_, fun hjk => ?_⟩
  · by_contra hc
    rcases h.2.2 with h2 | h2
    · omega
    · exact absurd (lt_of_lt_of_le h2 ((thr_mono (by omega) hj).trans hjt)) (lt_irrefl _)
  · rcases h.2.1 with h2 | h2
    · omega
    · exact (thr_mono hjk h.1).trans h2

/-! ## The two agree -/

/-- The kernel's scale and reciprocal scale at the exponent field `k`. -/
def fieldScale (k : ℕ) : EReal := thr (if k = 0 ∨ k = 255 then 127 else k + 1)
def fieldInv (k : ℕ) : EReal := thr (if k = 0 ∨ k = 255 then 127 else 253 - k)

theorem thr_127 : thr 127 = 1 := by simp [thr]

theorem pow2_zero : pow2 0 = 1 := by
  unfold pow2
  rw [if_neg (by rw [not_lt]; exact_mod_cast (by norm_num : (0 : ℝ) ≤ 127)),
    if_neg (by rw [not_lt]; exact_mod_cast (by norm_num : (-126 : ℝ) ≤ 0))]
  rw [← EReal.coe_zero, Ideal.exp2_coe]
  simp

theorem pow2_int (e : ℤ) : pow2 (((e : ℝ) : ℝ) : EReal)
    = if 127 < e then ⊤ else if e < -126 then 0 else (((2 : ℝ) ^ e : ℝ) : EReal) := by
  unfold pow2
  have h1 : ((127 : ℝ) : EReal) < (((e : ℝ) : ℝ) : EReal) ↔ 127 < e := by
    rw [EReal.coe_lt_coe_iff]; exact_mod_cast Iff.rfl
  have h2 : (((e : ℝ) : ℝ) : EReal) < ((-126 : ℝ) : EReal) ↔ e < -126 := by
    rw [EReal.coe_lt_coe_iff]; exact_mod_cast Iff.rfl
  simp only [h1, h2, Ideal.exp2_coe, Real.rpow_eq_pow, Real.rpow_intCast]

/-- A finite `t` whose exponent field is `k`, neither 0 nor 255, has the reference's exponent `k - 126` or, at 254, more. -/
theorem expo_of_field {t : EReal} {k : ℕ} (h : IsField t k) (h0 : k ≠ 0) (h255 : k ≠ 255) :
    ∃ e : ℤ, expo t = ((e : ℝ) : EReal) ∧ (k = 254 → 127 < e) ∧ (k ≠ 254 → e = (k : ℤ) - 126) := by
  obtain ⟨hk, h1, h2⟩ := h
  replace h1 : thr k ≤ t := h1.resolve_left h0
  replace h2 : t < thr (k + 1) := h2.resolve_left h255
  have ht : t ≠ ⊤ := fun e => by subst e; exact not_top_lt h2
  have hthr : thr k = (((2 : ℝ) ^ ((k : ℤ) - 127) : ℝ) : EReal) := by simp [thr, h0, h255]
  rw [hthr] at h1
  have hb : t ≠ ⊥ := fun e => by subst e; exact absurd h1 (by simp)
  lift t to ℝ using ⟨ht, hb⟩ with r
  have h1r : (2 : ℝ) ^ ((k : ℤ) - 127) ≤ r := EReal.coe_le_coe_iff.mp h1
  have hpos : 0 < r := lt_of_lt_of_le (by positivity) h1r
  have hl2 : 0 < Real.log 2 := Real.log_pos (by norm_num)
  have hmin : ¬((r : EReal) < minNormal ∨ (r : EReal) = ⊤) := by
    rw [not_or]
    refine ⟨not_lt.mpr (EReal.coe_le_coe_iff.mpr ((zpow_le_zpow_right₀ (by norm_num) (by omega)).trans h1r)), ht⟩
  have hlow : ((((k : ℤ) - 127 : ℤ) : ℝ)) ≤ Real.log r / Real.log 2 := by
    rw [le_div_iff₀ hl2, ← Real.log_zpow]
    exact Real.log_le_log (by positivity) h1r
  refine ⟨⌊Real.log r / Real.log 2⌋ + 1, ?_, ?_, ?_⟩
  · unfold expo
    rw [if_neg hmin, Ideal.log_coe, if_neg (not_le.mpr hpos), Ideal.div_coe hl2.ne', ← EReal.coe_mul, mul_one_div,
      Ideal.liftRound_coe, ← EReal.coe_one, ← EReal.coe_add]
    push_cast; rfl
  · intro h254
    have := Int.le_floor.mpr hlow
    omega
  · intro h254
    have hthr' : thr (k + 1) = (((2 : ℝ) ^ ((k : ℤ) + 1 - 127) : ℝ) : EReal) := by
      unfold thr; rw [if_neg (by omega), if_neg (by omega)]; push_cast; rfl
    rw [hthr', EReal.coe_lt_coe_iff] at h2
    have hup : Real.log r / Real.log 2 < ((((k : ℤ) - 127 : ℤ) : ℝ)) + 1 := by
      rw [div_lt_iff₀ hl2]
      have : ((((k : ℤ) - 127 : ℤ) : ℝ)) + 1 = (((k : ℤ) + 1 - 127 : ℤ) : ℝ) := by push_cast; ring
      rw [this, ← Real.log_zpow]
      exact Real.log_lt_log hpos h2
    have := Int.floor_eq_iff.mpr ⟨hlow, hup⟩
    omega

/-- At an exponent field of 0 or 255 the reference's exponent is 0. -/
theorem expo_of_special {t : EReal} {k : ℕ} (h : IsField t k) (hs : k = 0 ∨ k = 255) : expo t = 0 := by
  unfold expo
  refine if_pos ?_
  rcases hs with rfl | rfl
  · left
    have := h.2.2.resolve_left (by omega)
    simpa [thr, minNormal] using this
  · right
    have := h.2.1.resolve_left (by omega)
    simpa [thr] using this

/-- The kernel's scale is the reference's. -/
theorem fieldScale_eq {t : EReal} {k : ℕ} (h : IsField t k) : fieldScale k = scale t := by
  unfold fieldScale scale
  by_cases hs : k = 0 ∨ k = 255
  · rw [if_pos hs, thr_127, expo_of_special h hs, pow2_zero]
  · rw [if_neg hs]
    have hk := h.1
    obtain ⟨e, he, h1, h2⟩ := expo_of_field h (by omega) (by omega)
    rw [he, pow2_int]
    by_cases h254 : k = 254
    · rw [if_pos (h1 h254), h254]; simp [thr]
    · have := h2 h254
      rw [if_neg (by omega), if_neg (by omega), this]
      unfold thr
      rw [if_neg (by omega), if_neg (by omega)]
      congr 2; push_cast; ring

/-- The kernel's reciprocal scale is the reference's. -/
theorem fieldInv_eq {t : EReal} {k : ℕ} (h : IsField t k) : fieldInv k = inv t := by
  unfold fieldInv inv
  by_cases hs : k = 0 ∨ k = 255
  · rw [if_pos hs, thr_127, expo_of_special h hs, sub_zero, pow2_zero]
  · rw [if_neg hs]
    have hk := h.1
    obtain ⟨e, he, h1, h2⟩ := expo_of_field h (by omega) (by omega)
    have hneg : (0 : EReal) - ((e : ℝ) : EReal) = (((-e : ℤ) : ℝ) : EReal) := by
      rw [zero_sub, ← EReal.coe_neg]; push_cast; rfl
    rw [he, hneg, pow2_int]
    by_cases h254 : k = 254
    · have := h1 h254
      rw [if_neg (by omega), if_pos (by omega), h254]; simp [thr]
    · have := h2 h254
      rw [if_neg (by omega)]
      by_cases h253 : k = 253
      · rw [if_pos (by omega), h253]; simp [thr]
      · rw [if_neg (by omega)]
        unfold thr
        rw [if_neg (by omega), if_neg (by omega), this]
        congr 2; push_cast [show k ≤ 253 by omega]; ring

end Cert.Pow2

end
-- ==== Proof.Rows.lean ====
/-
  The mathematics of the layer, row by row, as extended reals (hand-written, untrusted): a row of the product with its
  scales, the greatest magnitude of the row, the row's scale and the row's codes. Both programs are shown to compute
  these functions of their arguments.
-/
module

public import proofs.«01_k».proof.Proof.Pow2

@[expose] public section

noncomputable section

namespace Cert.Rows

open Idealize.ShloMosaic

/-- One element of the layer's output before quantisation: the inner product, times the row's scale, times the column's. -/
def lin (x : Fin 1024 → EReal) (s : EReal) (w : Fin 1024 → EReal) (t : EReal) : EReal := (∑ k, x k * w k) * s * t

/-- The greatest magnitude of a row. -/
def peak (y : Fin 1920 → EReal) : EReal := Finset.fold max ⊥ (fun c => max (y c) (-(y c))) Finset.univ

/-- The number whose exponent becomes the row's scale: the peak times the float32 nearest to 1/448. -/
def target (y : Fin 1920 → EReal) : EReal := peak y * Ideal.ofBits .f32 0x3B124925#32

/-- A row's scale: a power of two. -/
def rowScale (y : Fin 1920 → EReal) : EReal := Pow2.scale (target y)

/-- A number times a reciprocal scale, clipped to the range of the codes. -/
def code (v i : EReal) : EReal := min (Ideal.ofBits .f32 0x43E00000#32) (max (Ideal.ofBits .f32 0xC3E00000#32) (v * i))

/-- A row's codes. -/
def rowCode (y : Fin 1920 → EReal) (c : Fin 1920) : EReal := code (y c) (Pow2.inv (target y))

/-! ## The whole arrays -/

/-- Row `r` of the layer's output, from the four operands as matrices. -/
def row (x : FVec Ideal ⟨2, ![3072, 1024]⟩ .fp8e4m3) (s : FVec Ideal ⟨2, ![3072, 1]⟩ .f32)
    (w : FVec Ideal ⟨2, ![1024, 1920]⟩ .fp8e4m3) (t : FVec Ideal ⟨2, ![1, 1920]⟩ .f32) (r : Fin 3072) (c : Fin 1920) : EReal :=
  lin (fun k => x (ix2 r k)) (s (ix2 r 0)) (fun k => w (ix2 k c)) (t (ix2 0 c))

/-- The scales of all rows. -/
def scales (x : FVec Ideal ⟨2, ![3072, 1024]⟩ .fp8e4m3) (s : FVec Ideal ⟨2, ![3072, 1]⟩ .f32)
    (w : FVec Ideal ⟨2, ![1024, 1920]⟩ .fp8e4m3) (t : FVec Ideal ⟨2, ![1, 1920]⟩ .f32) : FVec Ideal ⟨2, ![3072, 1]⟩ .f32 :=
  fun j => rowScale (row x s w t (j 0))

/-- The codes of all rows. -/
def codes (x : FVec Ideal ⟨2, ![3072, 1024]⟩ .fp8e4m3) (s : FVec Ideal ⟨2, ![3072, 1]⟩ .f32)
    (w : FVec Ideal ⟨2, ![1024, 1920]⟩ .fp8e4m3) (t : FVec Ideal ⟨2, ![1, 1920]⟩ .f32) : FVec Ideal ⟨2, ![3072, 1920]⟩ .fp8e4m3 :=
  fun j => rowCode (row x s w t (j 0)) (j 1)

/-! ## A row's peak from two pieces of the row -/

/-- The greatest of the first 1792 and the greatest of the last 128 is the greatest of all 1920. -/
theorem fold_max_split (f : Fin 1920 → EReal) :
    max (Finset.fold max ⊥ (fun c : Fin 1792 => f ⟨c.val, by omega⟩) Finset.univ)
        (Finset.fold max ⊥ (fun c : Fin 128 => f ⟨1792 + c.val, by omega⟩) Finset.univ)
      = Finset.fold max ⊥ f Finset.univ := by
  apply le_antisymm
  · refine max_le ?_ ?_ <;> rw [Finset.fold_max_le] <;> refine ⟨bot_le, fun c _ => ?_⟩ <;> rw [Finset.le_fold_max] <;>
      exact .inr ⟨_, Finset.mem_univ _, le_rfl⟩
  · rw [Finset.fold_max_le]
    refine ⟨bot_le, fun c _ => ?_⟩
    rw [le_max_iff, Finset.le_fold_max, Finset.le_fold_max]
    by_cases h : c.val < 1792
    · exact .inl (.inr ⟨⟨c.val, h⟩, Finset.mem_univ _, le_rfl⟩)
    · refine .inr (.inr ⟨⟨c.val - 1792, by omega⟩, Finset.mem_univ _, le_of_eq ?_⟩)
      exact congrArg f (Fin.ext (by simp; omega))

end Cert.Rows

end
-- ==== Proof.Field.lean ====
/-
  The exponent field as the kernel computes it in 32-bit words (hand-written, untrusted): a comparison with each of the
  256 powers of two, a select of the entry's number, the greatest of them, and the words of the scale and of the
  reciprocal scale made from it.
-/
module

public import proofs.«01_k».proof.Proof.Pow2

@[expose] public section

noncomputable section

namespace Cert.Field

open Idealize.ShloMosaic Cert.Pow2

/-- The word of entry `c` of the kernel's table after its comparison: the entry's number where the entry is at most `t`. -/
def entry (t : EReal) (c : Fin 256) : BitVec 32 :=
  if Ideal.ofBits .f32 (IntOp.shli .vector (BitVec.ofNat 32 c.val) 23#32) ≤ t then BitVec.ofNat 32 c.val else 0#32

/-- The kernel's exponent field of `t`: the greatest of the entries. -/
def word (t : EReal) : BitVec 32 := Finset.fold IntOp.maxsi 0x80000000#32 (entry t) Finset.univ

theorem shli_eq : ∀ k : Fin 256, IntOp.shli .vector (BitVec.ofNat 32 k.val) 23#32 = BitVec.ofNat 32 k.val <<< 23#32 := by
  decide +kernel

/-- Read as a float32, entry `k`'s word shifted is `thr k`. -/
theorem ofBits_shli (k : ℕ) (hk : k < 256) : Ideal.ofBits .f32 (IntOp.shli .vector (BitVec.ofNat 32 k) 23#32) = thr k := by
  rw [shli_eq ⟨k, hk⟩]; exact ofBits_shift k hk

/-- The entries of a number with field `k` are 0, 1, …, `k`, 0, 0, … -/
theorem entry_eq {t : EReal} {k : ℕ} (h : IsField t k) (c : Fin 256) :
    entry t c = if c.val ≤ k then BitVec.ofNat 32 c.val else 0#32 := by
  unfold entry
  rw [ofBits_shli c.val c.isLt]
  by_cases h0 : c.val = 0
  · rw [h0]; split_ifs <;> rfl
  · simp only [h.le_iff c.isLt h0]

theorem fold_entries : ∀ k : Fin 256, Finset.fold IntOp.maxsi 0x80000000#32
    (fun c : Fin 256 => if c.val ≤ k.val then BitVec.ofNat 32 c.val else 0#32) Finset.univ = BitVec.ofNat 32 k.val := by
  decide +kernel

/-- So the greatest entry is the field. -/
theorem word_eq {t : EReal} {k : ℕ} (h : IsField t k) : word t = BitVec.ofNat 32 k := by
  unfold word
  rw [funext (entry_eq h)]
  exact fold_entries ⟨k, h.1⟩

/-- The word of the scale's exponent field, from the field `f`. -/
def up (f : BitVec 32) : BitVec 32 :=
  Scalar.select (IntOp.ori (IntOp.cmpi .eq f 0#32) (IntOp.cmpi .eq f 255#32)) 127#32 (IntOp.addi f 1#32)

/-- The word of the reciprocal scale's exponent field, from the field `f`. -/
def down (f : BitVec 32) : BitVec 32 :=
  Scalar.select (IntOp.ori (IntOp.cmpi .eq f 0#32) (IntOp.cmpi .eq f 255#32)) 127#32
    (IntOp.maxsi (IntOp.subi 253#32 f) 0#32)

theorem up_eq : ∀ k : Fin 256, up (BitVec.ofNat 32 k.val)
    = BitVec.ofNat 32 (if k.val = 0 ∨ k.val = 255 then 127 else k.val + 1) := by decide +kernel

theorem down_eq : ∀ k : Fin 256, down (BitVec.ofNat 32 k.val)
    = BitVec.ofNat 32 (if k.val = 0 ∨ k.val = 255 then 127 else 253 - k.val) := by decide +kernel

/-- The kernel's scale is the reference's. -/
theorem up_scale (t : EReal) : Ideal.ofBits .f32 (IntOp.shli .vector (up (word t)) 23#32) = scale t := by
  obtain ⟨k, h⟩ := exists_field t
  have hk := h.1
  rw [word_eq h, up_eq ⟨k, h.1⟩, ofBits_shli _ (by dsimp only; split_ifs <;> omega), ← fieldScale_eq h]
  rfl

/-- The kernel's reciprocal scale is the reference's. -/
theorem down_inv (t : EReal) : Ideal.ofBits .f32 (IntOp.shli .vector (down (word t)) 23#32) = inv t := by
  obtain ⟨k, h⟩ := exists_field t
  have hk := h.1
  rw [word_eq h, down_eq ⟨k, h.1⟩, ofBits_shli _ (by dsimp only; split_ifs <;> omega), ← fieldInv_eq h]
  rfl

end Cert.Field

end
-- ==== Proof.Block.lean ====
/-
  What one block of the kernel computes, at `Ideal` (hand-written, untrusted): each value the body stores, at one
  element, as a function of the row of the layer's output that the block's operands give.
-/
module

public import proofs.«01_k».proof.Proof.Rows
public import proofs.«01_k».proof.Proof.Field
public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.ShloMosaic.TcCoe Idealize.SL.Sem
open Cert.KernelIdeal Cert.KernelIdeal.Gen

/-- The first product's element, with its scales. -/
theorem main_at (x : FVec Ideal S256x1024 .fp8e4m3) (s : FVec Ideal S256x1 .f32) (w : FVec Ideal S1024x1792 .fp8e4m3)
    (t : FVec Ideal S1x1792 .f32) (r : Fin 256) (c : Fin 1792) : k0_pay3 (F := Ideal) x s w t (ix2 r c)
      = Rows.lin (fun k => x (ix2 r k)) (s (ix2 r 0)) (fun k => w (ix2 k c)) (t (ix2 0 c)) := by
  pointwise [k0_pay3, k0_pay1, k0_pay2]
  rfl

/-- The second product's element: its last 128 columns, with their scales. -/
theorem tail_at (x : FVec Ideal S256x1024 .fp8e4m3) (s : FVec Ideal S256x1 .f32) (w : FVec Ideal S1024x256 .fp8e4m3)
    (t : FVec Ideal S1x128 .f32) (r : Fin 256) (c : Fin 128) : k0_pay4 (F := Ideal) x s w t (ix2 r c)
      = Rows.lin (fun k => x (ix2 r k)) (s (ix2 r 0)) (fun k => w (ix2 k ⟨128 + c.val, by omega⟩)) (t (ix2 0 c)) := by
  pointwise [k0_pay4, k0_pay1, k0_pay2]
  rfl

/-- The table of the exponent field: entry `e` of row `r` compares the row's target with the `e`-th power of two. -/
theorem table_at (x : FVec Ideal S256x1024 .fp8e4m3) (s : FVec Ideal S256x1 .f32) (w : FVec Ideal S1024x1792 .fp8e4m3)
    (w' : FVec Ideal S1024x256 .fp8e4m3) (t : FVec Ideal S1x1792 .f32) (t' : FVec Ideal S1x128 .f32)
    (r : Fin 256) (y : Fin 1920 → EReal)
    (hm : ∀ c : Fin 1792, k0_pay3 (F := Ideal) x s w t (ix2 r c) = y ⟨c.val, by omega⟩)
    (ht : ∀ c : Fin 128, k0_pay4 (F := Ideal) x s w' t' (ix2 r c) = y ⟨1792 + c.val, by omega⟩) (e : Fin 256) :
    k0_pay5 (F := Ideal) x s w w' t t' (ix2 r e) = Field.entry (Rows.target y) e := by
  pointwise [k0_pay5]
  have habs : ∀ v : EReal, (FloatOps.absf (F := Ideal) (φ := .f32) v : EReal) = max v (-v) := fun v => rfl
  have hp : max
        (Finset.fold max (Ideal.ofBits FTy.f32 4286578688#32)
          (fun c : Fin 1792 => (FloatOps.absf (F := Ideal) (φ := .f32) (k0_pay3 (F := Ideal) x s w t (ix2 r c)) : EReal)) Finset.univ)
        (Finset.fold max (Ideal.ofBits FTy.f32 4286578688#32)
          (fun c : Fin 128 => (FloatOps.absf (F := Ideal) (φ := .f32) (k0_pay4 (F := Ideal) x s w' t' (ix2 r c)) : EReal)) Finset.univ)
      = Rows.peak y := by
    rw [Pow2.ofBits_neg_inf]
    simp only [hm, ht, habs]
    exact Rows.fold_max_split (fun c => max (y c) (-(y c)))
  unfold Field.entry Rows.target
  rw [← hp]

/-- The scale stored for a row whose table compares `t`. -/
theorem scale_at (v : IVec S256x256 32) (r : Fin 256) (t : EReal) (h : ∀ e : Fin 256, v (ix2 r e) = Field.entry t e) :
    k0_pay8 (F := Ideal) v (ix2 r 0) = Pow2.scale t := by
  rw [← Field.up_scale]
  pointwise [k0_pay8, k0_pay7, k0_pay6]
  simp only [h]
  rfl

/-- The reciprocal scale of that row. -/
theorem inv_at (v : IVec S256x256 32) (r : Fin 256) (t : EReal) (h : ∀ e : Fin 256, v (ix2 r e) = Field.entry t e) :
    k0_pay9 (F := Ideal) v (ix2 r 0) = Pow2.inv t := by
  rw [← Field.down_inv]
  pointwise [k0_pay9, k0_pay7, k0_pay6]
  simp only [h]
  rfl

/-- A code of the first 1792 columns. -/
theorem code_main_at (y : FVec Ideal S256x1792 .f32) (v : IVec S256x256 32) (r : Fin 256) (c : Fin 1792) :
    k0_pay10 (F := Ideal) y v (ix2 r c) = Rows.code (y (ix2 r c)) (k0_pay9 (F := Ideal) v (ix2 r 0)) := by
  pointwise [k0_pay10]
  rfl

/-- A code of the last 128 columns. -/
theorem code_tail_at (y : FVec Ideal S256x128 .f32) (v : IVec S256x256 32) (r : Fin 256) (c : Fin 128) :
    k0_pay11 (F := Ideal) y v (ix2 r c) = Rows.code (y (ix2 r c)) (k0_pay9 (F := Ideal) v (ix2 r 0)) := by
  pointwise [k0_pay11]
  rfl

end Cert.KernelIdeal.Block

end
-- ==== Proof.Value.lean ====
/-
  What the kernel's two result arrays hold after the run, at `Ideal` (hand-written, untrusted): the scales and the codes of
  all rows (`Rows.scales`, `Rows.codes`) of the operands as the launch finds them.
-/
module

public import proofs.«01_k».proof.Proof.Block
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! ## One block -/

section Blocks

variable (x : FVec Ideal S256x1024 .fp8e4m3) (s : FVec Ideal S256x1 .f32) (w : FVec Ideal S1024x1920 .fp8e4m3)
  (t : FVec Ideal S1x1920 .f32)

/-- Row `r` of the layer's output, from one block's operands. -/
def blockRow (r : Fin 256) (c : Fin 1920) : EReal :=
  Rows.lin (fun k => x (ix2 r k)) (s (ix2 r 0)) (fun k => w (ix2 k c)) (t (ix2 0 c))

/-- The loads the body takes of the weights and of their scales. -/
def wMain : FVec Ideal S1024x1792 .fp8e4m3 := View.ld (Val := Elt Ideal) (e' := .fp8e4m3) w (Rect.unit (s := S1024x1920) ![0, 0] ![1024, 1792] inb_S1024x1920_S1024x1792_0_0)
def wTail : FVec Ideal S1024x256 .fp8e4m3 := View.ld (Val := Elt Ideal) (e' := .fp8e4m3) w (Rect.unit (s := S1024x1920) ![0, 1664] ![1024, 256] inb_S1024x1920_S1024x256_0_1664)
def tMain : FVec Ideal S1x1792 .f32 := View.ld (Val := Elt Ideal) (e' := .f32) t (Rect.unit (s := S1x1920) ![0, 0] ![1, 1792] inb_S1x1920_S1x1792_0_0)
def tTail : FVec Ideal S1x128 .f32 := View.ld (Val := Elt Ideal) (e' := .f32) t (Rect.unit (s := S1x1920) ![0, 1792] ![1, 128] inb_S1x1920_S1x128_0_1792)

theorem wMain_at (k : Fin 1024) (c : Fin 1792) : wMain w (ix2 k c) = w (ix2 k ⟨c.val, by omega⟩) := by
  unfold wMain; pointwise; blk_ext
theorem wTail_at (k : Fin 1024) (c : Fin 128) : wTail w (ix2 k ⟨128 + c.val, by omega⟩) = w (ix2 k ⟨1792 + c.val, by omega⟩) := by
  unfold wTail; pointwise; blk_ext
theorem tMain_at (c : Fin 1792) : tMain t (ix2 0 c) = t (ix2 0 ⟨c.val, by omega⟩) := by
  unfold tMain; pointwise; blk_ext
theorem tTail_at (c : Fin 128) : tTail t (ix2 0 c) = t (ix2 0 ⟨1792 + c.val, by omega⟩) := by
  unfold tTail; pointwise; blk_ext

theorem main_row (r : Fin 256) (c : Fin 1792) :
    k0_pay3 (F := Ideal) x s (wMain w) (tMain t) (ix2 r c) = blockRow x s w t r ⟨c.val, by omega⟩ := by
  rw [Block.main_at]
  simp only [wMain_at, tMain_at]
  rfl

theorem tail_row (r : Fin 256) (c : Fin 128) :
    k0_pay4 (F := Ideal) x s (wTail w) (tTail t) (ix2 r c) = blockRow x s w t r ⟨1792 + c.val, by omega⟩ := by
  rw [Block.tail_at]
  simp only [wTail_at, tTail_at]
  rfl

/-- The block's table of comparisons. -/
abbrev table : IVec S256x256 32 := k0_pay5 (F := Ideal) x s (wMain w) (wTail w) (tMain t) (tTail t)

theorem table_row (r e : Fin 256) : table x s w t (ix2 r e) = Field.entry (Rows.target (blockRow x s w t r)) e :=
  Block.table_at x s (wMain w) (wTail w) (tMain t) (tTail t) r (blockRow x s w t r) (main_row x s w t r) (tail_row x s w t r) e

/-- The block's stored scale of row `r`. -/
theorem scale_row (r : Fin 256) : k0_pay8 (F := Ideal) (table x s w t) (ix2 r 0) = Rows.rowScale (blockRow x s w t r) :=
  Block.scale_at _ r _ (table_row x s w t r)

/-- The block's stored codes of row `r`: the first 1792 columns … -/
theorem code_main_row (r : Fin 256) (c : Fin 1792) :
    k0_pay10 (F := Ideal) (k0_pay3 (F := Ideal) x s (wMain w) (tMain t)) (table x s w t) (ix2 r c)
      = Rows.rowCode (blockRow x s w t r) ⟨c.val, by omega⟩ := by
  rw [Block.code_main_at, Block.inv_at _ r _ (table_row x s w t r), main_row]
  rfl

/-- … and the last 128. -/
theorem code_tail_row (r : Fin 256) (c : Fin 128) :
    k0_pay11 (F := Ideal) (k0_pay4 (F := Ideal) x s (wTail w) (tTail t)) (table x s w t) (ix2 r c)
      = Rows.rowCode (blockRow x s w t r) ⟨1792 + c.val, by omega⟩ := by
  rw [Block.code_tail_at, Block.inv_at _ r _ (table_row x s w t r), tail_row]
  rfl

end Blocks

/-! ## The whole arrays -/

variable (m : (ℓ : Loc nD τ sig) → Buf (Elt Ideal) ℓ)

/-- The windows' block indices at every point: the rows' blocks in order, the weights and their scales whole. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Row `r` of block `t` is row `256 t + r` of the whole. -/
theorem blockRow_eq (c : Dev nD) (t : Fin cfg0.N) (r : Fin 256) (R : Fin 3072) (hR : R.val = t.val * 256 + r.val) :
    blockRow (iblk m c 0 t) (iblk m c 1 t) (iblk m c 2 t) (iblk m c 3 t) r
      = Rows.row (V m c main_v0) (V m c main_v1) (V m c main_arg2) (V m c main_arg3) R := by
  funext j
  have h0 : ∀ k : Fin 1024, (iblk m c 0 t : FVec Ideal S256x1024 .fp8e4m3) (ix2 r k)
      = (V m c main_v0 : FVec Ideal S3072x1024 .fp8e4m3) (ix2 R k) := fun k => by blk_ext [iblk, idx t]
  have h1 : (iblk m c 1 t : FVec Ideal S256x1 .f32) (ix2 r 0)
      = (V m c main_v1 : FVec Ideal S3072x1 .f32) (ix2 R 0) := by blk_ext [iblk, idx t]
  have h2 : ∀ k : Fin 1024, (iblk m c 2 t : FVec Ideal S1024x1920 .fp8e4m3) (ix2 k j)
      = (V m c main_arg2 : FVec Ideal S1024x1920 .fp8e4m3) (ix2 k j) := fun k => by blk_ext [iblk, idx t]
  have h3 : (iblk m c 3 t : FVec Ideal S1x1920 .f32) (ix2 0 j)
      = (V m c main_arg3 : FVec Ideal S1x1920 .f32) (ix2 0 j) := by blk_ext [iblk, idx t]
  unfold blockRow Rows.row
  rw [h1, h3, funext h0, funext h2]

/-- The scales' array after the run. -/
theorem final4 (c : Dev nD) : (dats m 0 c).arrAt 4 (cfgs 0).N
    = Rows.scales (V m c main_v0) (V m c main_v1) (V m c main_arg2) (V m c main_arg3) := by
  refine (dats m 0 c).arrAt_eq_of_covers 4 _ (by decide +kernel) fun t _ y => ?_
  blk_simp
  rw [after0_4]; unfold outsAt0; frame_out
  have ht : t.val < 12 := lt_of_lt_of_eq t.isLt N_0
  have hy : y = ix2 (⟨(y 0).val, (y 0).isLt⟩ : Fin 256) (0 : Fin 1) := by
    idx_vars y
    rw [Subsingleton.elim y1 0]
  rw [hy]
  refine (scale_row (iblk m c 0 t) (iblk m c 1 t) (iblk m c 2 t) (iblk m c 3 t) _).trans ?_
  unfold Rows.scales
  refine congrArg Rows.rowScale (blockRow_eq m c t _ _ ?_)
  blk_simp [idx t]
/-- The codes' array after the run. -/
theorem final5 (c : Dev nD) : (dats m 0 c).arrAt 5 (cfgs 0).N
    = Rows.codes (V m c main_v0) (V m c main_v1) (V m c main_arg2) (V m c main_arg3) := by
  refine (dats m 0 c).arrAt_eq_of_covers 5 _ (by decide +kernel) fun t _ y => ?_
  blk_simp
  rw [after0_5]; unfold outsAt0; frame_out
  canon_tiles x h using (View.cover_of_tiledBy (s := S256x1920) _ ![256, 128] (by sl_kernel_rfl) _)
  case piece0 =>
    idx_vars x
    refine (code_tail_row (iblk m c 0 t) (iblk m c 1 t) (iblk m c 2 t) (iblk m c 3 t) _ _).trans ?_
    unfold Rows.codes
    refine congrArg₂ Rows.rowCode (blockRow_eq m c t _ _ ?_) (Fin.ext ?_)
    · blk_simp [idx t]; omega
    · blk_simp [idx t]; exact h1.symm
  case piece1 =>
    idx_vars x
    refine (code_main_row (iblk m c 0 t) (iblk m c 1 t) (iblk m c 2 t) (iblk m c 3 t) _ _).trans ?_
    unfold Rows.codes
    refine congrArg₂ Rows.rowCode (blockRow_eq m c t _ _ ?_) (Fin.ext ?_)
    · blk_simp [idx t]; omega
    · blk_simp [idx t]; exact h1.symm

end Cert.KernelIdeal.Value

end
-- ==== Proof.Run.lean ====
/-
  The kernel's run at `Ideal` (hand-written, untrusted): what its two results hold at the end, as functions of its
  arguments, the host's reshapes before and after the launch included.
-/
module

public import proofs.«01_k».proof.Proof.Value

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem arrInj : Function.Injective (Pipeline.arrRef (sig := sig) spec0) := by decide

/-- The first result at the end: the scales' array, reshaped. -/
theorem tail3 (c : Dev nD) : Pipeline.afterTail₀ cfgs (dats m) 0 (V0 m) [hostOps1] c main_v3
    = shapeCast S1x3072x1 ((dats m 0 c).arrAt 4 (cfgs 0).N : FVec Ideal S3072x1 .f32) shapeCasts_S3072x1_S1x3072x1 := by
  unfold Pipeline.afterTail₀
  simp only [List.flatten_cons, List.flatten_nil, List.append_nil]
  after_results
  exact congrArg (fun A : FVec Ideal S3072x1 .f32 => shapeCast S1x3072x1 A shapeCasts_S3072x1_S1x3072x1)
    (Pipeline.withArrays_arr (cfgs 0).spec arrInj c (V0 m c) (fun w => (dats m 0 c).arrAt w (cfgs 0).N) 4)

/-- The second result at the end: the codes' array, reshaped. -/
theorem tail4 (c : Dev nD) : Pipeline.afterTail₀ cfgs (dats m) 0 (V0 m) [hostOps1] c main_v4
    = shapeCast S1x3072x1920 ((dats m 0 c).arrAt 5 (cfgs 0).N : FVec Ideal S3072x1920 .fp8e4m3)
        shapeCasts_S3072x1920_S1x3072x1920 := by
  unfold Pipeline.afterTail₀
  simp only [List.flatten_cons, List.flatten_nil, List.append_nil]
  after_results
  exact congrArg (fun A : FVec Ideal S3072x1920 .fp8e4m3 => shapeCast S1x3072x1920 A shapeCasts_S3072x1920_S1x3072x1920)
    (Pipeline.withArrays_arr (cfgs 0).spec arrInj c (V0 m c) (fun w => (dats m 0 c).arrAt w (cfgs 0).N) 5)

/-- The first two operands at the launch: the arguments, reshaped. -/
theorem entry0 (c : Dev nD) : (V m c main_v0 : FVec Ideal S3072x1024 .fp8e4m3)
    = shapeCast S3072x1024 (m ((c.tc : Thread nD τ).loc main_arg0) : FVec Ideal S1x3072x1024 .fp8e4m3)
        shapeCasts_S1x3072x1024_S3072x1024 := by
  show StableHlo.after [hostOps0].flatten (fun b => m (c, b)) (Proc.tc.devRef main_v0) = _
  simp only [List.flatten_cons, List.flatten_nil, List.append_nil]
  after_results
  rfl

theorem entry1 (c : Dev nD) : (V m c main_v1 : FVec Ideal S3072x1 .f32)
    = shapeCast S3072x1 (m ((c.tc : Thread nD τ).loc main_arg1) : FVec Ideal S1x3072x1 .f32) shapeCasts_S1x3072x1_S3072x1 := by
  show StableHlo.after [hostOps0].flatten (fun b => m (c, b)) (Proc.tc.devRef main_v1) = _
  simp only [List.flatten_cons, List.flatten_nil, List.append_nil]
  after_results
  rfl

/-- The scales, as a function of the four arguments. -/
def scaleOf (x : FVec Ideal S1x3072x1024 .fp8e4m3) (s : FVec Ideal S1x3072x1 .f32) (w : FVec Ideal S1024x1920 .fp8e4m3)
    (t : FVec Ideal S1x1920 .f32) : FVec Ideal S1x3072x1 .f32 :=
  shapeCast S1x3072x1 (Rows.scales (shapeCast S3072x1024 x shapeCasts_S1x3072x1024_S3072x1024)
    (shapeCast S3072x1 s shapeCasts_S1x3072x1_S3072x1) w t) shapeCasts_S3072x1_S1x3072x1

/-- The codes, as a function of the four arguments. -/
def codeOf (x : FVec Ideal S1x3072x1024 .fp8e4m3) (s : FVec Ideal S1x3072x1 .f32) (w : FVec Ideal S1024x1920 .fp8e4m3)
    (t : FVec Ideal S1x1920 .f32) : FVec Ideal S1x3072x1920 .fp8e4m3 :=
  shapeCast S1x3072x1920 (Rows.codes (shapeCast S3072x1024 x shapeCasts_S1x3072x1024_S3072x1024)
    (shapeCast S3072x1 s shapeCasts_S1x3072x1_S3072x1) w t) shapeCasts_S3072x1920_S1x3072x1920

/-- The run: both results as those functions of the arguments, the arguments unchanged. -/
theorem run (g : Dev nD → PrngReg) : θ_run (defs (F := Ideal)) (onTc (τ := τ) (main (F := Ideal))) ⟨m, fun _ => 0, g⟩
    (fun r => ∀ c : Dev nD,
      r.2.mem ((c.tc : Thread nD τ).loc main_v3) = scaleOf (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v4) = codeOf (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main (F := Ideal) m g) (unchanged (F := Ideal) m g))
  refine ⟨?_, ?_, h.2 c⟩
  · have h3 := (h.1 c).2 main_v3 (Pipeline.mem_restRefs_of main_v3 (by decide) (by decide))
    rw [h3, tail3, Value.final4, entry0, entry1, V_main_arg2, V_main_arg3]
    rfl
  · have h4 := (h.1 c).2 main_v4 (Pipeline.mem_restRefs_of main_v4 (by decide) (by decide))
    rw [h4, tail4, Value.final5, entry0, entry1, V_main_arg2, V_main_arg3]
    rfl

end Cert.KernelIdeal.Run

end
-- ==== Proof.Plain.lean ====
/-
  What the reference's one body computes, at `Ideal` (hand-written, untrusted): the values it stores, at one element, are
  the scale and the codes of the row of the layer's output.
-/
module

public import proofs.«01_k».proof.Proof.Rows
public import proofs.«01_k».proof.Proof.Gen.ReferenceIdeal.Skeleton
public import Idealize.ShloMosaic.Lib.Pointwise

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen

/-- An element of the layer's output. -/
theorem lin_at (x : FVec Ideal S3072x1024 .fp8e4m3) (w : FVec Ideal S1024x1920 .fp8e4m3) (s : FVec Ideal S3072x1 .f32)
    (t : FVec Ideal S1x1920 .f32) (r : Fin 3072) (c : Fin 1920) :
    k0_pay2 (F := Ideal) x w s t (ix2 r c) = Rows.row x s w t r c := by
  pointwise [k0_pay2]
  rfl

/-- The row maxima of a matrix. -/
theorem rowMax_at (y : FVec Ideal S3072x1920 .f32) (r : Fin 3072) :
    multiReduction (F := Ideal) .maximumf [1] S3072 y 0xFF800000#32 reduces_S3072x1920_S3072 (.inl rfl) rfl (ix1 r)
      = Finset.fold max ⊥ (fun c : Fin 1920 => (y (ix2 r c) : EReal)) Finset.univ := by
  rw [← Pow2.ofBits_neg_inf]
  pointwise

/-- A vector as a matrix of one column. -/
theorem column_at (y : FVec Ideal S3072 .f32) (r : Fin 3072) (c : Fin 1) :
    shapeCast S3072x1 y shapeCasts_S3072_S3072x1 (ix2 r c) = y (ix1 r) := by
  pointwise

/-- The numbers whose exponents are taken: the greatest magnitude of each row, times the float32 nearest to 1/448. -/
abbrev targets (y : FVec Ideal S3072x1920 .f32) : FVec Ideal S3072x1 .f32 :=
  mulf (shapeCast S3072x1 (multiReduction (F := Ideal) .maximumf [1] S3072 (absf y) 0xFF800000#32
    reduces_S3072x1920_S3072 (.inl rfl) rfl) shapeCasts_S3072_S3072x1) (broadcast S3072x1 (Scalar.ofBits .f32 0x3B124925#32))

theorem mul_at (a : FVec Ideal S3072x1 .f32) (r : Fin 3072) (c : Fin 1) :
    (mulf a (broadcast S3072x1 (Scalar.ofBits .f32 0x3B124925#32)) (ix2 r c) : EReal)
      = a (ix2 r c) * Ideal.ofBits .f32 0x3B124925#32 := by
  pointwise

theorem abs_at (y : FVec Ideal S3072x1920 .f32) (r : Fin 3072) (c : Fin 1920) :
    (absf y (ix2 r c) : EReal) = max (y (ix2 r c)) (-(y (ix2 r c))) := rfl

theorem targets_at (y : FVec Ideal S3072x1920 .f32) (r : Fin 3072) (c : Fin 1) :
    targets y (ix2 r c) = Rows.target (fun c => y (ix2 r c)) := by
  unfold targets Rows.target Rows.peak
  rw [mul_at, column_at, rowMax_at]
  simp only [abs_at]

/-- The reference's exponents of a column of numbers. -/
abbrev expos (v : FVec Ideal S3072x1 .f32) : FVec Ideal S3072x1 .f32 :=
  select (ori (cmpf .olt v (broadcast S3072x1 (Scalar.ofBits .f32 0x00800000#32)))
      (cmpf .oeq v (broadcast S3072x1 (Scalar.ofBits .f32 0x7F800000#32))))
    (broadcast S3072x1 (Scalar.ofBits .f32 0x00000000#32))
    (addf (floor (divf (log v) (broadcast S3072x1 (Named.named κ "ln2" 0x3F317218#32))))
      (broadcast S3072x1 (Scalar.ofBits .f32 0x3F800000#32)))

theorem expos_at (v : FVec Ideal S3072x1 .f32) (r : Fin 3072) (c : Fin 1) :
    expos v (ix2 r c) = Pow2.expo (v (ix2 r c)) := by
  have hn : (Named.named (F := Ideal) κ "ln2" (φ := .f32) 0x3F317218#32 : EReal) = ((Real.log 2 : ℝ) : EReal) :=
    IdealRules.named_const.ideal_named_scalar _ _ _ _ rfl
  unfold expos
  pointwise
  rw [hn, Pow2.ofBits_minNormal, Pow2.ofBits_inf]
  unfold Pow2.expo
  generalize (v (ix2 r c) : EReal) = a
  by_cases h1 : a < Pow2.minNormal <;> by_cases h2 : a = ⊤ <;> simp [h1, h2, Scalar.select, IntOp.ori]

/-- The reference's powers of two of a column of exponents. -/
abbrev pow2s (e : FVec Ideal S3072x1 .f32) : FVec Ideal S3072x1 .f32 :=
  select (cmpf .ogt e (broadcast S3072x1 (Scalar.ofBits .f32 0x42FE0000#32)))
    (broadcast S3072x1 (Scalar.ofBits .f32 0x7F800000#32))
    (select (cmpf .olt e (broadcast S3072x1 (Scalar.ofBits .f32 0xC2FC0000#32)))
      (broadcast S3072x1 (Scalar.ofBits .f32 0x00000000#32)) (exp2 e))

theorem pow2s_at (e : FVec Ideal S3072x1 .f32) (r : Fin 3072) (c : Fin 1) : pow2s e (ix2 r c) = Pow2.pow2 (e (ix2 r c)) := by
  unfold pow2s
  pointwise
  rw [Pow2.ofBits_127, Pow2.ofBits_neg_126, Pow2.ofBits_inf]
  rfl

/-- The scale stored for a row. -/
theorem scale_at (x : FVec Ideal S3072x1024 .fp8e4m3) (w : FVec Ideal S1024x1920 .fp8e4m3) (s : FVec Ideal S3072x1 .f32)
    (t : FVec Ideal S1x1920 .f32) (r : Fin 3072) (c : Fin 1) :
    k0_pay4 (F := Ideal) x w s t (ix2 r c) = Rows.rowScale (Rows.row x s w t r) := by
  have h : k0_pay4 (F := Ideal) x w s t = pow2s (expos (targets (k0_pay2 (F := Ideal) x w s t))) := rfl
  rw [h, pow2s_at, expos_at, targets_at, funext (lin_at x w s t r)]
  rfl

/-- The codes stored, from the layer's output, the exponents and the zeros they are subtracted from. -/
theorem clip_at (y : FVec Ideal S3072x1920 .f32) (e z : FVec Ideal S3072x1 .f32) (r : Fin 3072) (c : Fin 1920) :
    k0_pay1 (F := Ideal) y e z (ix2 r c) = Rows.code (y (ix2 r c)) (pow2s (subf z e) (ix2 r 0)) := by
  rw [pow2s_at]
  pointwise [k0_pay1]
  rw [Pow2.ofBits_127, Pow2.ofBits_neg_126, Pow2.ofBits_inf]
  rfl

/-- The code stored at a row and a column. -/
theorem code_at (x : FVec Ideal S3072x1024 .fp8e4m3) (w : FVec Ideal S1024x1920 .fp8e4m3) (s : FVec Ideal S3072x1 .f32)
    (t : FVec Ideal S1x1920 .f32) (r : Fin 3072) (c : Fin 1920) :
    k0_pay1 (F := Ideal) (k0_pay2 x w s t) (k0_pay3 x w s t) k0_pay5 (ix2 r c) = Rows.rowCode (Rows.row x s w t r) c := by
  have h : k0_pay3 (F := Ideal) x w s t = expos (targets (k0_pay2 (F := Ideal) x w s t)) := rfl
  have hz : (k0_pay5 (F := Ideal) (ix2 r 0) : EReal) = 0 := by
    pointwise [k0_pay5]
  have hs : ∀ e : FVec Ideal S3072x1 .f32, (subf (F := Ideal) k0_pay5 e (ix2 r 0) : EReal) = 0 - e (ix2 r 0) := fun e => by
    rw [← hz]; rfl
  rw [clip_at, pow2s_at, hs, h, expos_at, targets_at, funext (lin_at x w s t r), lin_at]
  rfl

end Cert.ReferenceIdeal.Plain

end
-- ==== Proof.PlainValue.lean ====
/-
  What the reference's two result arrays hold after the run, at `Ideal` (hand-written, untrusted): the scales and the codes
  of all rows (`Rows.scales`, `Rows.codes`) of the operands as the launch finds them.
-/
module

public import proofs.«01_k».proof.Proof.Plain
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

/-- The windows' one block is their array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem block0 (c : Dev nD) : (iblk m c 0 t0_0 : FVec Ideal S3072x1024 .fp8e4m3) = V m c main_v0 := by
  blk_ext! [iblk, idx t0_0]
theorem block1 (c : Dev nD) : (iblk m c 1 t0_0 : FVec Ideal S3072x1 .f32) = V m c main_v1 := by
  blk_ext! [iblk, idx t0_0]
theorem block2 (c : Dev nD) : (iblk m c 2 t0_0 : FVec Ideal S1024x1920 .fp8e4m3) = V m c main_arg2 := by
  blk_ext! [iblk, idx t0_0]
theorem block3 (c : Dev nD) : (iblk m c 3 t0_0 : FVec Ideal S1x1920 .f32) = V m c main_arg3 := by
  blk_ext! [iblk, idx t0_0]

/-- The scales' array after the run. -/
theorem final4 (c : Dev nD) : (dats m 0 c).arrAt 4 (cfgs 0).N
    = Rows.scales (V m c main_v0) (V m c main_v1) (V m c main_arg2) (V m c main_arg3) := by
  refine (dats m 0 c).arrAt_eq_of_after_last 4 t0_0 (by decide +kernel) _ fun j => ?_
  blk_simp
  rw [after0_4]; frame_out
  rw [block0, block1, block2, block3]
  idx_vars j
  exact Plain.scale_at _ _ _ _ j0 j1

/-- The codes' array after the run. -/
theorem final5 (c : Dev nD) : (dats m 0 c).arrAt 5 (cfgs 0).N
    = Rows.codes (V m c main_v0) (V m c main_v1) (V m c main_arg2) (V m c main_arg3) := by
  refine (dats m 0 c).arrAt_eq_of_after_last 5 t0_0 (by decide +kernel) _ fun j => ?_
  blk_simp
  rw [after0_5]; frame_out
  rw [block0, block1, block2, block3]
  idx_vars j
  exact Plain.code_at _ _ _ _ j0 j1

end Cert.ReferenceIdeal.Value

end
-- ==== Proof.PlainRun.lean ====
/-
  The reference's run at `Ideal` (hand-written, untrusted): what its two results hold at the end, as functions of its
  arguments, the host's reshapes before and after the launch included.
-/
module

public import proofs.«01_k».proof.Proof.PlainValue

@[expose] public section

set_option maxRecDepth 16384

noncomputable section

namespace Cert.ReferenceIdeal.Run

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ)

theorem arrInj : Function.Injective (Pipeline.arrRef (sig := sig) spec0) := by decide

/-- The first result at the end: the scales' array, reshaped. -/
theorem tail3 (c : Dev nD) : Pipeline.afterTail₀ cfgs (dats m) 0 (V0 m) [hostOps1] c main_v3
    = shapeCast S1x3072x1 ((dats m 0 c).arrAt 4 (cfgs 0).N : FVec Ideal S3072x1 .f32) shapeCasts_S3072x1_S1x3072x1 := by
  unfold Pipeline.afterTail₀
  simp only [List.flatten_cons, List.flatten_nil, List.append_nil]
  after_results
  exact congrArg (fun A : FVec Ideal S3072x1 .f32 => shapeCast S1x3072x1 A shapeCasts_S3072x1_S1x3072x1)
    (Pipeline.withArrays_arr (cfgs 0).spec arrInj c (V0 m c) (fun w => (dats m 0 c).arrAt w (cfgs 0).N) 4)

/-- The second result at the end: the codes' array, reshaped. -/
theorem tail4 (c : Dev nD) : Pipeline.afterTail₀ cfgs (dats m) 0 (V0 m) [hostOps1] c main_v4
    = shapeCast S1x3072x1920 ((dats m 0 c).arrAt 5 (cfgs 0).N : FVec Ideal S3072x1920 .fp8e4m3)
        shapeCasts_S3072x1920_S1x3072x1920 := by
  unfold Pipeline.afterTail₀
  simp only [List.flatten_cons, List.flatten_nil, List.append_nil]
  after_results
  exact congrArg (fun A : FVec Ideal S3072x1920 .fp8e4m3 => shapeCast S1x3072x1920 A shapeCasts_S3072x1920_S1x3072x1920)
    (Pipeline.withArrays_arr (cfgs 0).spec arrInj c (V0 m c) (fun w => (dats m 0 c).arrAt w (cfgs 0).N) 5)

/-- The first two operands at the launch: the arguments, reshaped. -/
theorem entry0 (c : Dev nD) : (V m c main_v0 : FVec Ideal S3072x1024 .fp8e4m3)
    = shapeCast S3072x1024 (m ((c.tc : Thread nD τ).loc main_arg0) : FVec Ideal S1x3072x1024 .fp8e4m3)
        shapeCasts_S1x3072x1024_S3072x1024 := by
  show StableHlo.after [hostOps0].flatten (fun b => m (c, b)) (Proc.tc.devRef main_v0) = _
  simp only [List.flatten_cons, List.flatten_nil, List.append_nil]
  after_results
  rfl

theorem entry1 (c : Dev nD) : (V m c main_v1 : FVec Ideal S3072x1 .f32)
    = shapeCast S3072x1 (m ((c.tc : Thread nD τ).loc main_arg1) : FVec Ideal S1x3072x1 .f32) shapeCasts_S1x3072x1_S3072x1 := by
  show StableHlo.after [hostOps0].flatten (fun b => m (c, b)) (Proc.tc.devRef main_v1) = _
  simp only [List.flatten_cons, List.flatten_nil, List.append_nil]
  after_results
  rfl

/-- The scales, as a function of the four arguments. -/
def scaleOf (x : FVec Ideal S1x3072x1024 .fp8e4m3) (s : FVec Ideal S1x3072x1 .f32) (w : FVec Ideal S1024x1920 .fp8e4m3)
    (t : FVec Ideal S1x1920 .f32) : FVec Ideal S1x3072x1 .f32 :=
  shapeCast S1x3072x1 (Rows.scales (shapeCast S3072x1024 x shapeCasts_S1x3072x1024_S3072x1024)
    (shapeCast S3072x1 s shapeCasts_S1x3072x1_S3072x1) w t) shapeCasts_S3072x1_S1x3072x1

/-- The codes, as a function of the four arguments. -/
def codeOf (x : FVec Ideal S1x3072x1024 .fp8e4m3) (s : FVec Ideal S1x3072x1 .f32) (w : FVec Ideal S1024x1920 .fp8e4m3)
    (t : FVec Ideal S1x1920 .f32) : FVec Ideal S1x3072x1920 .fp8e4m3 :=
  shapeCast S1x3072x1920 (Rows.codes (shapeCast S3072x1024 x shapeCasts_S1x3072x1024_S3072x1024)
    (shapeCast S3072x1 s shapeCasts_S1x3072x1_S3072x1) w t) shapeCasts_S3072x1920_S1x3072x1920

/-- The run: both results as those functions of the arguments, the arguments unchanged. -/
theorem run (g : Dev nD → PrngReg) : θ_run (defs (F := Ideal)) (onTc (τ := τ) (main (F := Ideal))) ⟨m, fun _ => 0, g⟩
    (fun r => ∀ c : Dev nD,
      r.2.mem ((c.tc : Thread nD τ).loc main_v3) = scaleOf (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v4) = codeOf (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main (F := Ideal) m g) (unchanged (F := Ideal) m g))
  refine ⟨?_, ?_, h.2 c⟩
  · have h3 := (h.1 c).2 main_v3 (Pipeline.mem_restRefs_of main_v3 (by decide) (by decide))
    rw [h3, tail3, Value.final4, entry0, entry1, V_main_arg2, V_main_arg3]
    rfl
  · have h4 := (h.1 c).2 main_v4 (Pipeline.mem_restRefs_of main_v4 (by decide) (by decide))
    rw [h4, tail4, Value.final5, entry0, entry1, V_main_arg2, V_main_arg3]
    rfl

end Cert.ReferenceIdeal.Run

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.Reference.Frame
public import proofs.«01_k».proof.Proof.Run
public import proofs.«01_k».proof.Proof.PlainRun

@[expose] public section

noncomputable section

namespace Cert.Proof

open Idealize.ShloMosaic Idealize.SL.Sem

theorem frame_P : Cert.quiescent_Kernel := fun m ρ _ => Cert.Kernel.Gen.frame m ρ
theorem frame_PI : Cert.quiescent_KernelIdeal := fun m ρ _ => Cert.KernelIdeal.Gen.frame m ρ
theorem frame_RI : Cert.quiescent_ReferenceIdeal := fun m ρ _ => Cert.ReferenceIdeal.Gen.frame m ρ
theorem frame_R : Cert.quiescent_Reference := fun m ρ _ => Cert.Reference.Gen.frame m ρ

/-- The reference's idealization gives the constant `ln2` the value `log 2`. -/
theorem preserves_R : Cert.preserves_Reference_ReferenceIdeal :=
  IdealRules.named_const.statement Cert.ReferenceIdeal.κ "ln2" .f32 0x3F317218#32 ((Real.log 2 : ℝ) : EReal) rfl

/-- The two runs' functions of the arguments are the same ones. -/
theorem scaleOf_eq : Cert.ReferenceIdeal.Run.scaleOf = Cert.KernelIdeal.Run.scaleOf := rfl
theorem codeOf_eq : Cert.ReferenceIdeal.Run.codeOf = Cert.KernelIdeal.Run.codeOf := rfl

/-- On equal arguments the kernel and the reference leave equal scales and equal codes. -/
theorem algebraic : Cert.algebraic_KernelIdeal_ReferenceIdeal := by
  intro m g m' g' _ hargs
  refine ⟨_, _, Cert.KernelIdeal.Run.run m g, ?_⟩
  refine (θ_run _ _ _).mono (fun r h c => ?_) (Cert.ReferenceIdeal.Run.run m' g')
  obtain ⟨h0, h1, h2, h3⟩ := hargs c
  obtain ⟨hs, hc, ha⟩ := h c
  rw [h0, h1, h2, h3, scaleOf_eq] at hs
  rw [h0, h1, h2, h3, codeOf_eq] at hc
  exact ⟨hs, hc, ha⟩

theorem claim : Cert.Claim := ⟨Cert.Kernel.Gen.facts, Cert.KernelIdeal.Gen.facts, Cert.ReferenceIdeal.Gen.facts,
  Cert.Reference.Gen.facts, frame_P, frame_PI, frame_RI, frame_R, trivial, preserves_R, algebraic⟩

end Cert.Proof

end
